-- ==== Defs.lean ====
def Pre_Kernel [hPre_layer_in_range : Cert.Pre_layer_in_range.Facts] (m : (ℓ : Loc Cert.Kernel.nD Cert.Kernel.τ Cert.Kernel.sig) → Buf (Elt Bits) ℓ) : Prop :=
  ∀ c : Dev Cert.Kernel.nD,
    (Cert.Pre_layer_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_layer_in_range : Cert.Pre_layer_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_and_layer_in_range [hPre_finite_and_layer_in_range : Cert.Pre_finite_and_layer_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_and_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_layer_in_range [hPre_finite_and_layer_in_range : Cert.Pre_finite_and_layer_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_and_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] [hPre_layer_in_range : Cert.Pre_layer_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_layer_in_range [hKernelIdeal : Cert.KernelIdeal.Facts] [hPre_finite_and_layer_in_range : Cert.Pre_finite_and_layer_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_layer_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_layer_in_range [hReferenceIdeal : Cert.ReferenceIdeal.Facts] [hPre_finite_and_layer_in_range : Cert.Pre_finite_and_layer_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_layer_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_layer_in_range [hKernelIdeal : Cert.KernelIdeal.Facts] [hReferenceIdeal : Cert.ReferenceIdeal.Facts] [hPre_finite_and_layer_in_range : Cert.Pre_finite_and_layer_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_layer_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_layer_in_range : Cert.Pre_layer_in_range.Facts) (hPre_finite_and_layer_in_range : Cert.Pre_finite_and_layer_in_range.Facts),
    quiescent_Kernel (hKernel := hKernel) (hPre_layer_in_range := hPre_layer_in_range)
    ∧ quiescent_KernelIdeal (hKernelIdeal := hKernelIdeal) (hPre_layer_in_range := hPre_layer_in_range)
    ∧ quiescent_KernelIdeal_pre_finite_and_layer_in_range (hKernelIdeal := hKernelIdeal) (hPre_finite_and_layer_in_range := hPre_finite_and_layer_in_range)
    ∧ quiescent_ReferenceIdeal (hReferenceIdeal := hReferenceIdeal)
    ∧ quiescent_ReferenceIdeal_pre_finite_and_layer_in_range (hReferenceIdeal := hReferenceIdeal) (hPre_finite_and_layer_in_range := hPre_finite_and_layer_in_range)
    ∧ preserves_Kernel_KernelIdeal
    ∧ algebraic_KernelIdeal_ReferenceIdeal_pre_finite_and_layer_in_range (hKernelIdeal := hKernelIdeal) (hReferenceIdeal := hReferenceIdeal) (hPre_finite_and_layer_in_range := hPre_finite_and_layer_in_range)
-- ==== Pre_finite_and_layer_in_range.lean ====
abbrev S4x4096x4096 : Shape := ⟨3, ![4, 4096, 4096]⟩
abbrev S_ : Shape := ⟨0, ![]⟩
abbrev S1024x4096 : Shape := ⟨2, ![1024, 4096]⟩
abbrev S1024 : Shape := ⟨1, ![1024]⟩
abbrev S2x1024 : Shape := ⟨2, ![2, 1024]⟩
abbrev S2 : Shape := ⟨1, ![2]⟩
abbrev S32 : Shape := ⟨1, ![32]⟩
abbrev S1 : Shape := ⟨1, ![1]⟩

class Facts : Prop where
  bcast_S_S4x4096x4096 : S_.BroadcastsInDim S4x4096x4096 (![] : Fin 0 → Fin S4x4096x4096.rank)
  bcast_S_S1024x4096 : S_.BroadcastsInDim S1024x4096 (![] : Fin 0 → Fin S1024x4096.rank)
  bcast_S_S1024 : S_.BroadcastsInDim S1024 (![] : Fin 0 → Fin S1024.rank)
  bcast_S_S2x1024 : S_.BroadcastsInDim S2x1024 (![] : Fin 0 → Fin S2x1024.rank)
  bcast_S_S2 : S_.BroadcastsInDim S2 (![] : Fin 0 → Fin S2.rank)
  sliceFits_S32_S1 : S32.Slices (fun _ => 0) S1
  h_S_ : 0 < S_.numel
  shapeCasts_S1_S_ : S1.ShapeCasts S_

variable [Facts]

def fn_part1 {F : FTy → Type} [FloatOps F] (main_arg1 : IVec S_ 32) (main_arg6 : FVec F S32 .f32) (main_v2 : IVec S_ 1) (main_v5 : IVec S4x4096x4096 1) (main_v8 : IVec S1024x4096 1) (main_v11 : IVec S1024 1) (main_v14 : IVec S2x1024 1) (main_v15 : FVec F S2 .f32) (main_v16 : FVec F S2 .f32) : IVec S_ 1 × IVec S4x4096x4096 1 × IVec S1024x4096 1 × IVec S1024 1 × IVec S2x1024 1 × IVec S2 1 × IVec S_ 1 :=
  let main_v17 : IVec S2 1 := cmpf .olt main_v15 main_v16
  let main_c_5 : IVec S_ 32 := constantI S_ 32 0#32
  let main_v18 : IVec S_ 1 := cmpi .slt main_arg1 main_c_5
  let main_c_6 : IVec S_ 32 := constantI S_ 32 32#32
  let main_v19 : IVec S_ 32 := addi main_arg1 main_c_6
  let main_v20 : IVec S_ 32 := select main_v18 main_v19 main_arg1
  let main_v21 : FVec F S1 .f32 := (fun x i => Host.dynamicSlice S1 x (fun k => (i k (Shape.Idx.first h_S_)).toInt) sliceFits_S32_S1) main_arg6 (![main_v20] : Fin 1 → IVec S_ 32)
  let main_v22 : FVec F S_ .f32 := shapeCast S_ main_v21 shapeCasts_S1_S_
  let main_v23 : FVec F S_ .f32 := Host.absf main_v22
  let main_cst_7 : FVec F S_ .f32 := constant S_ .f32 0x7F800000#32
  let main_v24 : IVec S_ 1 := cmpf .olt main_v23 main_cst_7
  (main_v2, main_v5, main_v8, main_v11, main_v14, main_v17, main_v24)

def fn {F : FTy → Type} [FloatOps F] (main_arg0 : FVec F S4x4096x4096 .f32) (main_arg1 : IVec S_ 32) (main_arg2 : FVec F S1024x4096 .f32) (main_arg3 : FVec F S1024 .f32) (main_arg4 : FVec F S2x1024 .f32) (main_arg5 : FVec F S2 .f32) (main_arg6 : FVec F S32 .f32) : IVec S_ 1 × IVec S4x4096x4096 1 × IVec S1024x4096 1 × IVec S1024 1 × IVec S2x1024 1 × IVec S2 1 × IVec S_ 1 :=
  let main_c : IVec S_ 32 := constantI S_ 32 0#32
  let main_v0 : IVec S_ 1 := cmpi .sge main_arg1 main_c
  let main_c_0 : IVec S_ 32 := constantI S_ 32 32#32
  let main_v1 : IVec S_ 1 := cmpi .slt main_arg1 main_c_0
  let main_v2 : IVec S_ 1 := andi main_v0 main_v1
  let main_v3 : FVec F S4x4096x4096 .f32 := Host.absf main_arg0
  let main_cst : FVec F S_ .f32 := constant S_ .f32 0x7F800000#32
  let main_v4 : FVec F S4x4096x4096 .f32 := broadcastInDim S4x4096x4096 ![] bcast_S_S4x4096x4096 main_cst
  let main_v5 : IVec S4x4096x4096 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S2 .f32 := Host.absf main_arg5
  let main_cst_4 : FVec F S_ .f32 := constant S_ .f32 0x7F800000#32
  let main_v16 : FVec F S2 .f32 := broadcastInDim S2 ![] bcast_S_S2 main_cst_4
  fn_part1 (F := F) main_arg1 main_arg6 main_v2 main_v5 main_v8 main_v11 main_v14 main_v15 main_v16
-- ==== Pre_layer_in_range.lean ====
abbrev S4x4096x4096 : Shape := ⟨3, ![4, 4096, 4096]⟩
abbrev S_ : Shape := ⟨0, ![]⟩
abbrev S1024x4096 : Shape := ⟨2, ![1024, 4096]⟩
abbrev S1024 : Shape := ⟨1, ![1024]⟩
abbrev S2x1024 : Shape := ⟨2, ![2, 1024]⟩
abbrev S2 : Shape := ⟨1, ![2]⟩
abbrev S32 : Shape := ⟨1, ![32]⟩

class Facts : Prop where

variable [Facts]

def fn {F : FTy → Type} [FloatOps F] (main_arg0 : FVec F S4x4096x4096 .f32) (main_arg1 : IVec S_ 32) (main_arg2 : FVec F S1024x4096 .f32) (main_arg3 : FVec F S1024 .f32) (main_arg4 : FVec F S2x1024 .f32) (main_arg5 : FVec F S2 .f32) (main_arg6 : FVec F S32 .f32) : IVec S_ 1 :=
  let main_c : IVec S_ 32 := constantI S_ 32 0#32
  let main_v0 : IVec S_ 1 := cmpi .sge main_arg1 main_c
  let main_c_0 : IVec S_ 32 := constantI S_ 32 32#32
  let main_v1 : IVec S_ 1 := cmpi .slt main_arg1 main_c_0
  let main_v2 : IVec S_ 1 := andi main_v0 main_v1
  main_v2
-- ==== Kernel.lean ====
abbrev S4x4096x4096 : Shape := ⟨3, ![4, 4096, 4096]⟩
abbrev S_ : Shape := ⟨0, ![]⟩
abbrev S1024x4096 : Shape := ⟨2, ![1024, 4096]⟩
abbrev S1024 : Shape := ⟨1, ![1024]⟩
abbrev S2x1024 : Shape := ⟨2, ![2, 1024]⟩
abbrev S2 : Shape := ⟨1, ![2]⟩
abbrev S32 : Shape := ⟨1, ![32]⟩
abbrev S16384x4096 : Shape := ⟨2, ![16384, 4096]⟩
abbrev S4096x1024 : Shape := ⟨2, ![4096, 1024]⟩
abbrev S1 : Shape := ⟨1, ![1]⟩
abbrev S1x1024 : Shape := ⟨2, ![1, 1024]⟩
abbrev S16x1x1024 : Shape := ⟨3, ![16, 1, 1024]⟩
abbrev S4x4096 : Shape := ⟨2, ![4, 4096]⟩
abbrev S1x1x1024 : Shape := ⟨3, ![1, 1, 1024]⟩
abbrev S128x4096 : Shape := ⟨2, ![128, 4096]⟩
abbrev S128x1024 : Shape := ⟨2, ![128, 1024]⟩
abbrev S128 : Shape := ⟨1, ![128]⟩
abbrev S1x1x128 : Shape := ⟨3, ![1, 1, 128]⟩

abbrev nBuf : Space → Nat
  | .hbm => 14
  | .vmem => 7
  | .smem => 3
  | _ => 0

abbrev bufTy : (tb : Table) → Fin (tcTables nBuf tb) → BufTy
  | .hbm, ⟨0, _⟩ => ⟨S4x4096x4096, .f32⟩
  | .hbm, ⟨1, _⟩ => ⟨S_, .i32⟩
  | .hbm, ⟨2, _⟩ => ⟨S1024x4096, .f32⟩
  | .hbm, ⟨3, _⟩ => ⟨S1024, .f32⟩
  | .hbm, ⟨4, _⟩ => ⟨S2x1024, .f32⟩
  | .hbm, ⟨5, _⟩ => ⟨S2, .f32⟩
  | .hbm, ⟨6, _⟩ => ⟨S32, .f32⟩
  | .hbm, ⟨7, _⟩ => ⟨S16384x4096, .f32⟩
  | .hbm, ⟨8, _⟩ => ⟨S4096x1024, .f32⟩
  | .hbm, ⟨9, _⟩ => ⟨S4096x1024, .bf16⟩
  | .hbm, ⟨10, _⟩ => ⟨S1, .i32⟩
  | .hbm, ⟨11, _⟩ => ⟨S1x1024, .f32⟩
  | .hbm, ⟨12, _⟩ => ⟨S16x1x1024, .f32⟩
  | .hbm, ⟨13, _⟩ => ⟨S4x4096, .f32⟩
  | .local _ .vmem, ⟨0, _⟩ => ⟨S1024x4096, .f32⟩
  | .local _ .vmem, ⟨1, _⟩ => ⟨S1024x4096, .f32⟩
  | .local _ .vmem, ⟨2, _⟩ => ⟨S4096x1024, .bf16⟩
  | .local _ .vmem, ⟨3, _⟩ => ⟨S1x1024, .f32⟩
  | .local _ .vmem, ⟨4, _⟩ => ⟨S2x1024, .f32⟩
  | .local _ .vmem, ⟨5, _⟩ => ⟨S1x1x1024, .f32⟩
  | .local _ .vmem, ⟨6, _⟩ => ⟨S1x1x1024, .f32⟩
  | .local _ .smem, ⟨0, _⟩ => ⟨S1, .i32⟩
  | .local _ .smem, ⟨1, _⟩ => ⟨S2, .f32⟩
  | .local _ .smem, ⟨2, _⟩ => ⟨S32, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg0_0 : Ref sig .tc := ⟨.smem, 0, rfl⟩
abbrev cc0_stg5_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def k0_off1 (v10 : BitVec 32) : Fin 1 → Nat :=
  let v11 : Index := Scalar.indexCast v10
  ![v11.toNat]

def k0_chk1 (v10 : BitVec 32) : Prop :=
  (∀ a, (k0_off1 v10) a + S1.size a ≤ S32.size a)
theorem k0_off1_inb : ∀ (v10 : BitVec 32) (k0_hw1 : k0_chk1 v10), ∀ a, (k0_off1 v10) a + S1.size a ≤ S32.size a := fun v10 k0_hw1 => k0_hw1

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x4096 : Shape := ⟨3, ![4, 4096, 4096]⟩
abbrev S_ : Shape := ⟨0, ![]⟩
abbrev S1024x4096 : Shape := ⟨2, ![1024, 4096]⟩
abbrev S1024 : Shape := ⟨1, ![1024]⟩
abbrev S2x1024 : Shape := ⟨2, ![2, 1024]⟩
abbrev S2 : Shape := ⟨1, ![2]⟩
abbrev S32 : Shape := ⟨1, ![32]⟩
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S1024x2 : Shape := ⟨2, ![1024, 2]⟩
abbrev S16384x2 : Shape := ⟨2, ![16384, 2]⟩
abbrev S1x2 : Shape := ⟨2, ![1, 2]⟩
abbrev S1 : Shape := ⟨1, ![1]⟩
abbrev S16384 : Shape := ⟨1, ![16384]⟩
abbrev S16384x1 : Shape := ⟨2, ![16384, 1]⟩
abbrev S4x4096 : Shape := ⟨2, ![4, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .i32⟩
  | .hbm, ⟨2, _⟩ => ⟨S1024x4096, .f32⟩
  | .hbm, ⟨3, _⟩ => ⟨S1024, .f32⟩
  | .hbm, ⟨4, _⟩ => ⟨S2x1024, .f32⟩
  | .hbm, ⟨5, _⟩ => ⟨S2, .f32⟩
  | .hbm, ⟨6, _⟩ => ⟨S32, .f32⟩
  | .hbm, ⟨7, _⟩ => ⟨S16384x4096, .f32⟩
  | .hbm, ⟨8, _⟩ => ⟨S4096x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x2, .f32⟩
  | .hbm, ⟨23, _⟩ => ⟨S16384x2, .f32⟩
  | .hbm, ⟨24, _⟩ => ⟨S1x2, .f32⟩
  | .hbm, ⟨25, _⟩ => ⟨S16384x2, .f32⟩
  | .hbm, ⟨26, _⟩ => ⟨S16384x2, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .f32⟩
  | .hbm, ⟨33, _⟩ => ⟨S_, .f32⟩
  | .hbm, ⟨34, _⟩ => ⟨S_, .i32⟩
  | .hbm, ⟨35, _⟩ => ⟨S1, .i32⟩
  | .hbm, ⟨36, _⟩ => ⟨S16384, .f32⟩
  | .hbm, ⟨37, _⟩ => ⟨S16384x2, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1, .f32⟩
  | .hbm, ⟨44, _⟩ => ⟨S16384x2, .f32⟩
  | .hbm, ⟨45, _⟩ => ⟨S16384x2, .f32⟩
  | .hbm, ⟨46, _⟩ => ⟨S16384x2, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x2, .f32⟩
  | .hbm, ⟨51, _⟩ => ⟨S16384x2, .f32⟩
  | .hbm, ⟨52, _⟩ => ⟨S16384x1, .f32⟩
  | .hbm, ⟨53, _⟩ => ⟨S16384, .f32⟩
  | .hbm, ⟨54, _⟩ => ⟨S4x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Score.lean ====
/- The vocabulary both sides are read in, over the extended reals: one unit of the hidden layer before its activation,
   the activation, the kernel's score of a row, and the reference's. -/
module

public import Idealize.ShloMosaic.Lib.Pointwise

@[expose] public section

noncomputable section

namespace Cert.Score

open Idealize.ShloMosaic

/-- A hidden unit before its activation: the row `x` against the unit's weights `w`, and the unit's bias `b`. -/
def unit (x w : Fin 4096 → EReal) (b : EReal) : EReal := ∑ e, x e * w e + b

/-- The activation: `h` times the logistic function of `h`. -/
def silu (h : EReal) : EReal := h * Ideal.logistic h

/-- The row's hidden layer after its activation. -/
def hidden (x : Fin 4096 → EReal) (w : Fin 1024 → Fin 4096 → EReal) (b : Fin 1024 → EReal) (k : Fin 1024) : EReal :=
  silu (unit x (w k) (b k))

/-- The kernel's score of a row with hidden layer `a`: the logistic function of `a` against `d`, plus `s`. -/
def score (a d : Fin 1024 → EReal) (s : EReal) : EReal := Ideal.logistic (∑ k, a k * d k + s)

/-- The difference of the two rows of the second layer's weights. -/
def diff (w2 : (⟨2, ![2, 1024]⟩ : Shape).Idx → EReal) (k : Fin 1024) : EReal := w2 (ix2 1 k) - w2 (ix2 0 k)

/-- The difference of the second layer's biases, plus the bias of the layer `n`. -/
def shift (b2 : (⟨1, ![2]⟩ : Shape).Idx → EReal) (lb : (⟨1, ![32]⟩ : Shape).Idx → EReal) (n : Fin 32) : EReal :=
  b2 (ix1 1) - b2 (ix1 0) + lb (ix1 n)

/-- The kernel's score of a row `x`, from the arguments: the weights and bias of the first layer, those of the second,
    the layers' biases, and the layer. -/
def ofArgs (x : Fin 4096 → EReal) (w1 : (⟨2, ![1024, 4096]⟩ : Shape).Idx → EReal) (b1 : (⟨1, ![1024]⟩ : Shape).Idx → EReal)
    (w2 : (⟨2, ![2, 1024]⟩ : Shape).Idx → EReal) (b2 : (⟨1, ![2]⟩ : Shape).Idx → EReal)
    (lb : (⟨1, ![32]⟩ : Shape).Idx → EReal) (n : Fin 32) : EReal :=
  score (hidden x (fun k e => w1 (ix2 k e)) fun k => b1 (ix1 k)) (diff w2) (shift b2 lb n)

/-- The larger of two logits, from −∞, as the reference takes it. -/
def larger (l : Fin 2 → EReal) : EReal := max ⊥ (Finset.fold max ⊥ l Finset.univ)

/-- The reference's score: the second share of the softmax of two logits, the larger taken off each first. -/
def share (l : Fin 2 → EReal) : EReal := Ideal.div (Ideal.exp (l 1 - larger l)) (∑ k, Ideal.exp (l k - larger l))

end Cert.Score

end
-- ==== Proof.Chunk.lean ====
/- What the kernel computes of one chunk of 128 rows: the two linear layers with the activation between them, on the
   difference of the two rows of the second layer's weights, and the logistic function of the sum. The kernel's body
   does it eight times, once per chunk of its block of 1024 rows, in one chain of operations printed eight times; here
   the chain is written once, each printed payload is shown to be it, and it is read at a row. -/
module

public import proofs.«01_k».proof.Proof.Gen.KernelIdeal.Skeleton
public import proofs.«01_k».proof.Proof.Score

@[expose] public section

noncomputable section

namespace Cert.Chunk

open Idealize.ShloMosaic
open Cert.KernelIdeal Cert.KernelIdeal.Gen Cert.KernelIdeal.Facts

section Payloads

variable {F : FTy → Type} [FloatOps F]

/-- The chain of one chunk: from the weights `w`, the bias `b`, the difference `d` of the second layer's rows, the
    constant `s` and the chunk's rows `x`, the 128 results. -/
def chunk (w : FVec F S4096x1024 .bf16) (b d : FVec F S1x1024 .f32) (s : F .f32) (x : Vec F S128x4096 .f32) :
    FVec F S1x1x128 .f32 :=
  have p : FVec F S128x1024 .f32 := matmul dot_S128x4096_S4096x1024_S128x1024_1_0_0_1_n_n none
    (truncf .bf16 (shapeCast S128x4096 x shapeCasts_S128x4096_S128x4096) bitsLt_bf16_f32) w
    (constant S128x1024 .f32 0x00000000#32)
  have h : FVec F S128x1024 .f32 := addf p (broadcastTo S128x1024 b broadcasts_S1x1024_S128x1024)
  have a : FVec F S128x1024 .f32 := mulf h (logistic h)
  have t : FVec F S128 .f32 := multiReduction .add [1] S128
    (mulf a (broadcastTo S128x1024 d broadcasts_S1x1024_S128x1024)) 0x00000000#32 reduces_S128x1024_S128 (.inl rfl) rfl
  shapeCast S1x1x128 (logistic (addf t (broadcast S128 s))) shapeCasts_S128_S1x1x128

variable (w : FVec F S4096x1024 .bf16) (b d : FVec F S1x1024 .f32) (s : F .f32) (x : Vec F S128x4096 .f32)

/-! The printed payloads of the eight chunks, each the chain: the first takes the loads themselves, the second the loads of
    weights and bias, and the others take what the first two computed. -/

theorem chunk0 (w0 : Vec F S4096x1024 .bf16) (b0 d1 d0 : Vec F S1x1024 .f32) (s1 s0 l : Elt F .f32) :
    k0_pay7 w0 b0 d1 d0 s1 s0 l x = chunk (k0_pay3 w0) (k0_pay4 b0) (k0_pay5 d1 d0) (k0_pay6 s1 s0 l) x := rfl
theorem chunk1 (w0 : Vec F S4096x1024 .bf16) (b0 : Vec F S1x1024 .f32) :
    k0_pay10 d s (k0_pay8 w0 x) (k0_pay9 b0) = chunk (k0_pay3 w0) (k0_pay4 b0) d s x := rfl
theorem chunk2 : k0_pay11 w b d s x = chunk w b d s x := rfl
theorem chunk3 : k0_pay13 (k0_pay12 w b d s x) = chunk w b d s x := rfl
theorem chunk4 : k0_pay14 w b d s x = chunk w b d s x := rfl
theorem chunk5 : k0_pay15 w b d s x = chunk w b d s x := rfl
theorem chunk6 : k0_pay1 w b d s x = chunk w b d s x := rfl
theorem chunk7 : k0_pay2 w b d s x = chunk w b d s x := rfl

end Payloads

/-- A chunk's result at its row `j`: the score of the row. -/
theorem chunk_at (w : FVec Ideal S4096x1024 .bf16) (b d : FVec Ideal S1x1024 .f32) (s : Ideal .f32)
    (x : Vec Ideal S128x4096 .f32) (j : Fin 128) :
    chunk w b d s x (ix3 0 0 j)
      = Score.score (Score.hidden (fun e => x (ix2 j e)) (fun k e => w (ix2 e k)) (fun k => b (ix2 0 k)))
          (fun k => d (ix2 0 k)) s := by
  pointwise [chunk, Score.score, Score.hidden, Score.silu, Score.unit]

end Cert.Chunk

end
-- ==== Proof.Entry.lean ====
/- The blocks a grid point finds, at the arguments: the lines before the kernel's region flatten the hidden states to
   16384 rows, transpose and round the first layer's weights, and give the two vectors an axis of one; a grid point's
   block of the rows is the 1024 rows from 1024 times the point on, and every other operand is whole at every point. -/
module

public import proofs.«01_k».proof.Proof.Score
public import proofs.«01_k».proof.Proof.Gen.KernelIdeal.Frame
public import Idealize.ShloMosaic.Lib.Pipeline.ValueKit
public import Idealize.ShloMosaic.Lib.Claim

@[expose] public section

noncomputable section

namespace Cert.Entry

open Idealize.ShloMosaic Idealize.ShloMosaic.TcCoe Idealize.SL.Sem
open Cert.KernelIdeal Cert.KernelIdeal.Gen Cert.KernelIdeal.Facts

variable (m : (ℓ : Loc nD τ sig) → Buf (Elt Ideal) ℓ) (c : Dev nD) (t : Fin cfg0.N)

/-! Where each operand's block starts at a grid point: the hidden states at 1024 rows a point, the others at zero. -/

theorem index0 : ∀ t : Fin cfg0.N, win0_0.index t = ![0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0] := by decide +kernel
theorem index6 : ∀ t : Fin cfg0.N, win0_6.index t = ![0] := by decide +kernel

/-- The flattened hidden states, at the region's entry. -/
theorem entry_rows : V m c main_call0_v0
    = shapeCast S16384x4096 (m ((c : Thread nD τ).loc main_arg0)) shapeCasts_S4x4096x4096_S16384x4096 := rfl
/-- The first layer's weights, transposed and rounded, at the region's entry. -/
theorem entry_weights : V m c main_call0_v2 = (truncf .bf16 (transpose S4096x1024 [1, 0]
    (m ((c : Thread nD τ).loc main_arg2) : FVec Ideal S1024x4096 .f32) transposes_S1024x4096_S4096x1024_1_0) bitsLt_bf16_f32
      : FVec Ideal S4096x1024 .bf16) := rfl
/-- The layer index under an axis of one, at the region's entry. -/
theorem entry_layer : V m c main_call0_v3 = shapeCast S1 (m ((c : Thread nD τ).loc main_arg1)) shapeCasts_S_S1 := rfl
/-- The first layer's bias under an axis of one, at the region's entry. -/
theorem entry_bias : V m c main_call0_v4
    = shapeCast S1x1024 (m ((c : Thread nD τ).loc main_arg3)) shapeCasts_S1024_S1x1024 := rfl

/-- Row `r` of point `t`'s block of the hidden states is the row `(a, l)` of the argument, where
    `1024 t + r = 4096 a + l`. -/
theorem rows_at (a : Fin 4) (l : Fin 4096) (r : Fin 1024) (e : Fin 4096)
    (h : 1024 * t.val + r.val = 4096 * a.val + l.val) :
    iblk m c 1 t (ix2 r e) = m ((c : Thread nD τ).loc main_arg0) (ix3 a l e) := by
  unfold iblk
  change V m c main_call0_v0 ((win0_1.blk t).view.emb (ix2 r e)) = _
  rw [entry_rows]
  refine shapeCast_apply (s := S4x4096x4096) _ _ _ (ix3 a l e) ?_
  rw [Shape.rowMajor_val_three, Shape.rowMajor_val_two]
  blk_simp [index1]
  omega

/-- The block of the first layer's weights, at `(e, k)`: the argument at `(k, e)`. -/
theorem weights_at (k : Fin 1024) (e : Fin 4096) :
    iblk m c 2 t (ix2 e k) = m ((c : Thread nD τ).loc main_arg2) (ix2 k e) := by
  have h : (win0_2.blk t).view.emb (ix2 e k) = (ix2 e k : S4096x1024.Idx) := by blk_ext [index2]
  unfold iblk
  change V m c main_call0_v2 ((win0_2.blk t).view.emb (ix2 e k)) = _
  rw [entry_weights, h]
  pointwise

/-- The block of the first layer's bias is the argument. -/
theorem bias_at (k : Fin 1024) :
    iblk m c 3 t (ix2 0 k) = m ((c : Thread nD τ).loc main_arg3) (ix1 k) := by
  have h : (win0_3.blk t).view.emb (ix2 0 k) = (ix2 0 k : S1x1024.Idx) := by blk_ext [index3]
  unfold iblk
  change V m c main_call0_v4 ((win0_3.blk t).view.emb (ix2 0 k)) = _
  rw [entry_bias, h]
  pointwise

/-- The block of the layer index is the argument's one word. -/
theorem layer_at (y : S1.Idx) (z : S_.Idx) : iblk m c 0 t y = m ((c : Thread nD τ).loc main_arg1) z := by
  unfold iblk
  change V m c main_call0_v3 ((win0_0.blk t).view.emb y) = _
  rw [entry_layer]
  refine shapeCast_apply (s := S_) _ _ _ z ?_
  rw [Shape.rowMajor_val_one]
  blk_simp [index0]

/-- The block of the second layer's weights is the argument. -/
theorem second_at (y : S2x1024.Idx) : iblk m c 4 t y = m ((c : Thread nD τ).loc main_arg4) y := by
  unfold iblk
  change V m c main_arg4 _ = _
  rw [V_main_arg4]
  exact congrArg _ (by blk_ext [index4])

/-- The block of the second layer's bias is the argument. -/
theorem second_bias_at (y : S2.Idx) : iblk m c 5 t y = m ((c : Thread nD τ).loc main_arg5) y := by
  unfold iblk
  change V m c main_arg5 _ = _
  rw [V_main_arg5]
  exact congrArg _ (by blk_ext [index5])

/-- The block of the layers' biases is the argument. -/
theorem layer_bias_at (y : S32.Idx) : iblk m c 6 t y = m ((c : Thread nD τ).loc main_arg6) y := by
  unfold iblk
  change V m c main_arg6 _ = _
  rw [V_main_arg6]
  exact congrArg _ (by blk_ext [index6])

end Cert.Entry

end
-- ==== Proof.Block.lean ====
/- What the kernel writes to a grid point's block: its eight chunks cover the block's 1024 rows, and at each row the
   block holds the score of that row of the hidden states, whichever chunk the row lies in. -/
module

public import proofs.«01_k».proof.Proof.Chunk
public import proofs.«01_k».proof.Proof.Entry

@[expose] public section

noncomputable section

namespace Cert.Block

open Idealize.ShloMosaic Idealize.ShloMosaic.TcCoe Idealize.SL.Sem
open Cert.KernelIdeal Cert.KernelIdeal.Gen Cert.KernelIdeal.Facts

variable (m : (ℓ : Loc nD τ sig) → Buf (Elt Ideal) ℓ)

/-- A chunk's result at its row `x`, its rows loaded from the block `X` at the offset `off`: the score of the block's
    row `off + x`. -/
theorem chunk_row (X : Vec Ideal S1024x4096 .f32) (w : FVec Ideal S4096x1024 .bf16) (b d : FVec Ideal S1x1024 .f32)
    (s : Ideal .f32) (off : Nat) (inb : ∀ a, (![off, 0] : Fin 2 → Nat) a + S128x4096.size a ≤ S1024x4096.size a)
    (x : S1x1x128.Idx) (r : Fin 1024) (h : r.val = off + (x 2).val) :
    Chunk.chunk w b d s (View.ld X (Rect.unit (s := S1024x4096) ![off, 0] S128x4096.size inb)) x
      = Score.score (Score.hidden (fun e => X (ix2 r e)) (fun k e => w (ix2 e k)) (fun k => b (ix2 0 k)))
          (fun k => d (ix2 0 k)) s := by
  obtain ⟨j, rfl⟩ : ∃ j : Fin 128, x = ix3 0 0 j := ⟨x 2, by
    funext a
    match a with
    | ⟨0, _⟩ => exact Fin.ext (Nat.lt_one_iff.mp (x 0).isLt)
    | ⟨1, _⟩ => exact Fin.ext (Nat.lt_one_iff.mp (x 1).isLt)
    | ⟨2, _⟩ => rfl⟩
  rw [Chunk.chunk_at]
  have e : (fun e => View.ld X (Rect.unit (s := S1024x4096) ![off, 0] S128x4096.size inb) (ix2 j e))
      = fun e => X (ix2 r e) := funext fun e => View.ld_unit_apply_of X _ _ inb _ _ fun a => by
    match a with
    | ⟨0, _⟩ => exact h
    | ⟨1, _⟩ => exact (Nat.zero_add _).symm
  exact congrArg (fun v => Score.score (Score.hidden v _ _) _ s) e

/-- A word of one axis, loaded at a place. -/
theorem word_at {n : Nat} (X : Vec Ideal ⟨1, ![n]⟩ .f32) (off : Fin 1 → Nat) (inb) (x : S1.Idx) (i : Fin n) (h : off 0 = i.val) :
    View.ld X (Rect.unit (s := ⟨1, ![n]⟩) off ![1] inb) x = X (ix1 i) :=
  View.ld_unit_apply_of X _ _ inb _ _ fun a => by
    match a with
    | ⟨0, _⟩ =>
      have := (x 0).isLt
      change (x 0).val < 1 at this
      change i.val = off 0 + (x 0).val
      omega

/-- The weights of a chunk are the first layer's, transposed. -/
theorem weights_at (c : Dev nD) (t : Fin cfg0.N) (k : Fin 1024) (e : Fin 4096) :
    k0_pay3 (iblk m c 2 t) (ix2 e k) = m ((c : Thread nD τ).loc main_arg2) (ix2 k e) := by
  unfold k0_pay3
  rw [shapeCast_self]
  exact Entry.weights_at m c t k e

/-- The bias of a chunk is the first layer's. -/
theorem bias_at (c : Dev nD) (t : Fin cfg0.N) (k : Fin 1024) :
    k0_pay4 (iblk m c 3 t) (ix2 0 k) = m ((c : Thread nD τ).loc main_arg3) (ix1 k) := by
  unfold k0_pay4
  rw [shapeCast_self]
  exact Entry.bias_at m c t k

/-- A row of the second layer's weights, loaded as a block of one row. -/
theorem second_row (X : Vec Ideal S2x1024 .f32) (i : Fin 2) (inb) (k : Fin 1024) :
    View.ld X (Rect.unit (s := S2x1024) ![i.val, 0] S1x1024.size inb) (ix2 0 k) = X (ix2 i k) :=
  View.ld_unit_apply_of X _ _ inb _ _ fun a => by
    match a with
    | ⟨0, _⟩ => rfl
    | ⟨1, _⟩ => exact (Nat.zero_add _).symm

/-- The difference of the second layer's rows that a point computes. -/
theorem diff_at (X : Vec Ideal S2x1024 .f32) (inb1 inb0) (k : Fin 1024) :
    k0_pay5 (View.ld X (Rect.unit (s := S2x1024) ![1, 0] S1x1024.size inb1))
      (View.ld X (Rect.unit (s := S2x1024) ![0, 0] S1x1024.size inb0)) (ix2 0 k) = Score.diff X k :=
  congrArg₂ (fun u v : EReal => u - v) (second_row X 1 inb1 k) (second_row X 0 inb0 k)

/-- The constant that a point computes, the layer's bias read at the word `w`. -/
theorem shift_at (B : Vec Ideal S2 .f32) (L : Vec Ideal S32 .f32) (w : BitVec 32) (n : Fin 32) (h : w.toNat = n.val)
    (inb1 inb0 inb) (x y z : S1.Idx) :
    k0_pay6 (F := Ideal) (View.ld B (Rect.unit (s := S2) ![1] S1.size inb1) x) (View.ld B (Rect.unit (s := S2) ![0] S1.size inb0) y)
      (View.ld L (Rect.unit (s := S32) (k0_off1 w) S1.size inb) z) = Score.shift B L n :=
  congrArg₂ (fun u v : EReal => u + v)
    (congrArg₂ (fun u v : EReal => u - v) (word_at (n := 2) B _ inb1 x 1 rfl) (word_at (n := 2) B _ inb0 y 0 rfl))
    (word_at (n := 32) L _ inb z n h)

/-- What point `t` leaves in its block, at `y`: the score of the block's row `y 2`, where `n` is the layer. -/
theorem block_at (hH : Hyps m) (c : Dev nD) (t : Fin cfg0.N) (y : S1x1x1024.Idx) (r : Fin 1024) (hr : (y 2).val = r.val)
    (n : Fin 32) (hn : ∀ z : S_.Idx, (m ((c : Thread nD τ).loc main_arg1) z).toNat = n.val) :
    outsAt0 m hH c t y = Score.ofArgs (fun e => iblk m c 1 t (ix2 r e)) (m ((c : Thread nD τ).loc main_arg2))
      (m ((c : Thread nD τ).loc main_arg3)) (m ((c : Thread nD τ).loc main_arg4)) (m ((c : Thread nD τ).loc main_arg5))
      (m ((c : Thread nD τ).loc main_arg6)) n := by
  have e4 : iblk m c 4 t = m ((c : Thread nD τ).loc main_arg4) := funext (Entry.second_at m c t)
  have e5 : iblk m c 5 t = m ((c : Thread nD τ).loc main_arg5) := funext (Entry.second_bias_at m c t)
  have e6 : iblk m c 6 t = m ((c : Thread nD τ).loc main_arg6) := funext (Entry.layer_bias_at m c t)
  unfold outsAt0
  frame_out
  simp only [Chunk.chunk0, Chunk.chunk1, Chunk.chunk2, Chunk.chunk3, Chunk.chunk4, Chunk.chunk5, Chunk.chunk6, Chunk.chunk7]
  generalize hs : k0_pay6 (F := Ideal) _ _ _ = s
  generalize hd : k0_pay5 (F := Ideal) _ _ = d
  have hd' : ∀ k : Fin 1024, d (ix2 0 k) = Score.diff (m ((c : Thread nD τ).loc main_arg4)) k := fun k => by
    rw [← hd, ← e4]
    exact diff_at _ _ _ k
  have hs' : s = Score.shift (m ((c : Thread nD τ).loc main_arg5)) (m ((c : Thread nD τ).loc main_arg6)) n := by
    rw [← hs, ← e5, ← e6]
    refine shift_at _ _ _ n ?_ _ _ _ _ _ _
    rw [(hs0_0 t).read_unread]
    exact (congrArg BitVec.toNat (Entry.layer_at m c t _ (Shape.Idx.first (by decide)))).trans (hn _)
  clear hs hd
  have hsc : Score.score (Score.hidden (fun e => iblk m c 1 t (ix2 r e))
        (fun k e => k0_pay3 (iblk m c 2 t) (ix2 e k)) (fun k => k0_pay4 (iblk m c 3 t) (ix2 0 k)))
          (fun k => d (ix2 0 k)) s
      = Score.ofArgs (fun e => iblk m c 1 t (ix2 r e)) (m ((c : Thread nD τ).loc main_arg2))
      (m ((c : Thread nD τ).loc main_arg3)) (m ((c : Thread nD τ).loc main_arg4)) (m ((c : Thread nD τ).loc main_arg5))
      (m ((c : Thread nD τ).loc main_arg6)) n := by
    simp only [weights_at, bias_at, hd', hs']
    rfl
  generalize k0_pay3 (iblk m c 2 t) = w at hsc ⊢
  generalize k0_pay4 (iblk m c 3 t) = b at hsc ⊢
  rw [← hsc]
  canon_tiles x h
  all_goals exact chunk_row _ _ _ _ _ _ _ _ r (by omega)

end Cert.Block

end
-- ==== Proof.Array.lean ====
/- What the kernel leaves in its result: the blocks of the 16 grid points fill the region's array of 16 by 1 by 1024, and
   the line after the region lays it out as 4 by 4096, so the result at `(a, l)` is the score of the row `(a, l)` of the
   hidden states. -/
module

public import proofs.«01_k».proof.Proof.Block

@[expose] public section

noncomputable section

namespace Cert.Array

open Idealize.ShloMosaic Idealize.ShloMosaic.TcCoe Idealize.SL.Sem
open Cert.KernelIdeal Cert.KernelIdeal.Gen Cert.KernelIdeal.Facts

variable (m : (ℓ : Loc nD τ sig) → Buf (Elt Ideal) ℓ)

/-- The result at `(a, l)`: the score of the row `(a, l)` of the hidden states, where `n` is the layer. -/
def result (c : Dev nD) (n : Fin 32) : S4x4096.Idx → EReal := fun i =>
  Score.ofArgs (fun e => m ((c : Thread nD τ).loc main_arg0) (ix3 (i 0) (i 1) e)) (m ((c : Thread nD τ).loc main_arg2))
    (m ((c : Thread nD τ).loc main_arg3)) (m ((c : Thread nD τ).loc main_arg4)) (m ((c : Thread nD τ).loc main_arg5))
    (m ((c : Thread nD τ).loc main_arg6)) n

/-- The block of the output at a grid point: the point's row of 1024. -/
theorem index7 : ∀ t : Fin cfg0.N, win0_7.index t = ![t.val, 0, 0] := by decide +kernel

/-- The two layouts of the result hold as many elements. -/
theorem cast : S4x4096.ShapeCasts S16x1x1024 := by decide

/-- What the region's array holds when the kernel ends: the result, laid out as 16 by 1 by 1024. -/
theorem array (hH : Hyps m) (c : Dev nD) (n : Fin 32)
    (hn : ∀ z : S_.Idx, (m ((c : Thread nD τ).loc main_arg1) z).toNat = n.val) :
    (dats m hH 0 c).arrAt 7 cfg0.N = shapeCast S16x1x1024 (result m c n) cast := by
  refine (dats m hH 0 c).arrAt_eq_of_covers 7 _ (by decide +kernel) fun t hf y => ?_
  blk_simp
  rw [after0_7]
  have ht : t.val < 16 := t.isLt
  have h0 : (y 0).val < 1 := (y 0).isLt
  have h1 : (y 1).val < 1 := (y 1).isLt
  have h2 : (y 2).val < 1024 := (y 2).isLt
  refine (Block.block_at m hH c t y ⟨(y 2).val, h2⟩ rfl n hn).trans ?_
  refine ((shapeCast_apply (s := S4x4096) _ _ _ (ix2 ⟨(1024 * t.val + (y 2).val) / 4096, by omega⟩
    ⟨(1024 * t.val + (y 2).val) % 4096, by omega⟩) ?_).trans ?_).symm
  · rw [Shape.rowMajor_val_three, Shape.rowMajor_val_two]
    blk_simp [index7]
    change (1024 * t.val + (y 2).val) / 4096 * 4096 + (1024 * t.val + (y 2).val) % 4096 = t.val * 1024 + (y 2).val
    omega
  · unfold result
    refine congrArg (fun v => Score.ofArgs v _ _ _ _ _ n) (funext fun e => (Entry.rows_at m c t _ _ _ e ?_).symm)
    change 1024 * t.val + (y 2).val = 4096 * ((1024 * t.val + (y 2).val) / 4096) + (1024 * t.val + (y 2).val) % 4096
    omega

/-- Every run of the kernel ends with `result` in its result buffer. -/
theorem run (ρ : Dev nD → PrngReg) (hH : Hyps m) (n : Dev nD → Fin 32)
    (hn : ∀ (c : Dev nD) (z : S_.Idx), (m ((c : Thread nD τ).loc main_arg1) z).toNat = (n c).val) :
    θ_run defs (onTc (τ := τ) (main (F := Ideal))) (s₀ m ρ) fun r =>
      ∀ c : Dev nD, r.2.mem ((c : Thread nD τ).loc main_v0) = result m c (n c) := by
  refine (θ_run defs _ _).mono (fun r h c => ?_) (run_main m ρ hH)
  refine (h.rest_eq c main_v0 (by decide)).trans ?_
  dsimp only [Pipeline.afterTail₀]
  rw [show ([hostOps1] : List (List (HloOp τ sig (Elt Ideal)))).flatten = hostOps1 from rfl]
  after_results
  have e := (Pipeline.withArrays_arr spec0 launch0.win.arr_inj c (V0 m c) (fun w => (dats m hH 0 c).arrAt w cfg0.N) 7).trans
    (array m hH c (n c) (hn c))
  refine (congrArg (fun v => shapeCast S4x4096 (v : S16x1x1024.Idx → EReal) shapeCasts_S16x1x1024_S4x4096) e).trans ?_
  rw [shapeCast_shapeCast]

end Cert.Array

end
-- ==== Proof.Layer.lean ====
/- The layer index. The kernel reads one word of `layer_bias`, at the position that `layer_idx` names, so its run needs
   that the position is one of the 32. Here the precondition is decoded to a bound on the word, and the bound gives the
   side condition of the run, for the compiled kernel and for its idealized form. -/
module

public import proofs.«01_k».proof.Defs
public import proofs.«01_k».proof.Proof.Gen.Kernel.Frame
public import proofs.«01_k».proof.Proof.Gen.KernelIdeal.Frame
public import proofs.«01_k».proof.Proof.Gen.Pre_layer_in_range
public import proofs.«01_k».proof.Proof.Gen.Pre_finite_and_layer_in_range
public import Idealize.ShloMosaic.Lib.Claim

@[expose] public section

namespace Cert.Layer

open Idealize.ShloMosaic Idealize.ShloMosaic.TcCoe

/-- A word `w` with `0 ≤ w` and `w < 32` as signed integers, the two comparisons conjoined to one bit, is below 32. -/
theorem lt_of_bit (w : BitVec 32)
    (h : IntOp.andi (IntOp.cmpi .sge w 0#32) (IntOp.cmpi .slt w 32#32) = 1#1) : w.toNat < 32 := by
  by_contra hn
  have e : (BitVec.sle 0#32 w && BitVec.slt w 32#32) = true := by
    revert h
    simp only [IntOp.cmpi, IntOp.andi]
    cases BitVec.sle 0#32 w <;> cases BitVec.slt w 32#32 <;> decide
  simp only [BitVec.sle, BitVec.slt, BitVec.toInt, BitVec.toNat_ofNat, Bool.and_eq_true, decide_eq_true_eq] at e
  omega

/-- A position below 32 lies inside the 32 words of `layer_bias` (the compiled kernel's side condition). -/
theorem chk_bits (w : BitVec 32) (h : w.toNat < 32) : Cert.Kernel.k0_chk1 w := by
  unfold Cert.Kernel.k0_chk1 Cert.Kernel.k0_off1
  intro a
  fin_cases a
  simp [Scalar.indexCast]
  omega

/-- The same of the idealized kernel. -/
theorem chk_ideal (w : BitVec 32) (h : w.toNat < 32) : Cert.KernelIdeal.k0_chk1 w := chk_bits w h

section Bits
open Cert.Kernel Cert.Kernel.Gen

/-- The compiled kernel's run has its side conditions where the layer index is one of the 32. -/
theorem hyps_bits (m : (ℓ : Loc nD τ sig) → Buf (Elt Bits) ℓ) (h : Cert.Pre_Kernel m) : Hyps m := by
  refine Hyps.of fun c t => chk_bits _ ?_
  simp only [View.readAt_apply, Memref.IsWhole.read_unread]
  unfold iblk
  rw [View.read_apply, cast_eq]
  change (V m c main_call0_v3 _).toNat < 32
  entry_read
  exact lt_of_bit _ (congrFun (h c) _)

end Bits

section Ideal
open Cert.KernelIdeal Cert.KernelIdeal.Gen

/-- The idealized kernel's run has its side conditions where the layer index, a scalar, is below 32. -/
theorem hyps_of_lt (m : (ℓ : Loc nD τ sig) → Buf (Elt Ideal) ℓ)
    (h : ∀ (c : Dev nD) (y : S_.Idx), (m ((c : Thread nD τ).loc main_arg1) y).toNat < 32) : Hyps m := by
  refine Hyps.of fun c t => chk_ideal _ ?_
  simp only [View.readAt_apply, Memref.IsWhole.read_unread]
  unfold iblk
  rw [View.read_apply, cast_eq]
  change (V m c main_call0_v3 _).toNat < 32
  entry_read
  exact h c _

/-- The range precondition bounds the layer index. -/
theorem lt_of_range (m : (ℓ : Loc nD τ sig) → Buf (Elt Ideal) ℓ) (h : Cert.Pre_KernelIdeal m) (c : Dev nD) (y : S_.Idx) :
    (m ((c : Thread nD τ).loc main_arg1) y).toNat < 32 :=
  lt_of_bit _ (congrFun (h c) y)

/-- The precondition of the value claim, whose first part is the range, bounds it too. -/
theorem lt_of_finite (m : (ℓ : Loc nD τ sig) → Buf (Elt Ideal) ℓ) (h : Cert.Pre_KernelIdeal_finite_and_layer_in_range m)
    (c : Dev nD) (y : S_.Idx) : (m ((c : Thread nD τ).loc main_arg1) y).toNat < 32 :=
  lt_of_bit _ (congrFun (h c).1 y)

end Ideal

end Cert.Layer
-- ==== Proof.Math.lean ====
/- The mathematics of one row: the second share of a softmax of two logits is the logistic function of their difference,
   and the difference of two weighted sums is one sum against the difference of the weights. Both hold where every number
   is real, so what is real is stated first. -/
module

public import proofs.«01_k».proof.Proof.Score
public import Idealize.ShloMosaic.PureOps.Ideal

@[expose] public section

noncomputable section

namespace Cert.Math

open Idealize.ShloMosaic

/-- An extended real that is a real number. -/
def IsReal (x : EReal) : Prop := ∃ r : ℝ, x = r

/-- A number whose magnitude is below infinity is real. -/
theorem isReal_of_abs_lt {x : EReal} (h : max x (-x) < ⊤) : IsReal x := by
  induction x with
  | bot => simp at h
  | top => simp at h
  | coe r => exact ⟨r, rfl⟩

/-- Real numbers are closed under addition. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Real numbers are closed under multiplication. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The logistic function of a real number is real. -/
theorem IsReal.logistic {x : EReal} (hx : IsReal x) : IsReal (Ideal.logistic x) := by
  obtain ⟨a, rfl⟩ := hx
  exact ⟨_, Ideal.logistic_coe (r := a)⟩

/-- A finite sum of real numbers, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is real. -/
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- The hidden layer of a real row is real. -/
theorem hidden_real (x : Fin 4096 → EReal) (w : Fin 1024 → Fin 4096 → EReal) (b : Fin 1024 → EReal)
    (hx : ∀ e, IsReal (x e)) (hw : ∀ k e, IsReal (w k e)) (hb : ∀ k, IsReal (b k)) (k : Fin 1024) :
    IsReal (Score.hidden x w b k) := by
  have h : IsReal (Score.unit x (w k) (b k)) := (IsReal.sum fun e => (hx e).mul (hw k e)).add (hb k)
  exact h.mul h.logistic

/-- The largest of two real logits and −∞, as the reference takes it. -/
theorem larger_coe (l : Fin 2 → EReal) (p q : ℝ) (hp : l 0 = p) (hq : l 1 = q) :
    max ⊥ (Finset.fold max ⊥ l Finset.univ) = ((max p q : ℝ) : EReal) := by
  rw [show (Finset.univ : Finset (Fin 2)) = {0, 1} from rfl, Finset.fold_insert (by decide), Finset.fold_singleton, hp, hq]
  simp only [max_bot_left, max_bot_right]
  exact (EReal.coe_strictMono.monotone.map_max).symm

/-- The second share of the softmax of two real logits is the logistic function of their difference. -/
theorem share_eq (l : Fin 2 → EReal) (p q : ℝ) (hp : l 0 = p) (hq : l 1 = q) :
    Score.share l = Ideal.logistic ((q - p : ℝ) : EReal) := by
  unfold Score.share Score.larger
  rw [larger_coe l p q hp hq, Fin.sum_univ_two, hp, hq]
  generalize max p q = M
  rw [← EReal.coe_sub, ← EReal.coe_sub, Ideal.exp_coe, Ideal.exp_coe, ← EReal.coe_add,
    Ideal.div_coe (by positivity), ← EReal.coe_mul, Ideal.logistic_coe]
  refine congrArg _ ?_
  have e : Real.exp (-(q - p)) = Real.exp (p - M) / Real.exp (q - M) := by
    rw [← Real.exp_sub]
    exact congrArg _ (by ring)
  rw [e]
  have hp := Real.exp_pos (p - M)
  have hq := Real.exp_pos (q - M)
  generalize Real.exp (p - M) = a at hp ⊢
  generalize Real.exp (q - M) = b at hq ⊢
  field_simp
  ring

/-- One row: the reference's share of the second logit is the kernel's score. -/
theorem share_logits (a u v : Fin 1024 → EReal) (s t c : EReal) (ha : ∀ k, IsReal (a k)) (hu : ∀ k, IsReal (u k))
    (hv : ∀ k, IsReal (v k)) (hs : IsReal s) (ht : IsReal t) (hc : IsReal c) (l : Fin 2 → EReal)
    (h0 : l 0 = ∑ k, a k * u k + s) (h1 : l 1 = ∑ k, a k * v k + t + c) :
    Score.share l = Score.score a (fun k => v k - u k) (t - s + c) := by
  choose a' ha using ha
  choose u' hu using hu
  choose v' hv using hv
  obtain ⟨s', rfl⟩ := hs
  obtain ⟨t', rfl⟩ := ht
  obtain ⟨c', rfl⟩ := hc
  obtain rfl : a = fun k => (a' k : EReal) := funext ha
  obtain rfl : u = fun k => (u' k : EReal) := funext hu
  obtain rfl : v = fun k => (v' k : EReal) := funext hv
  simp only [← EReal.coe_mul, ← coe_sum, ← EReal.coe_add] at h0 h1
  rw [share_eq l _ _ h0 h1]
  unfold Score.score
  simp only [← EReal.coe_sub, ← EReal.coe_mul, ← coe_sum, ← EReal.coe_add]
  refine congrArg (fun r : ℝ => Ideal.logistic (r : EReal)) ?_
  simp only [mul_sub, Finset.sum_sub_distrib]
  ring

end Cert.Math

end
-- ==== Proof.RefRun.lean ====
/- The reference, run. Its `main` is 48 host operations in a row; they are grouped here into six stages — the hidden
   layer, the logits, the layer's bias, its addition, the softmax, the exit probability — and each stage is shown to leave in its last
   buffer a term of what its first buffers held. Chained, they give the result as a function of the seven arguments. -/
module

public import proofs.«01_k».proof.Defs
public import proofs.«01_k».proof.Proof.Gen.ReferenceIdeal
public import Idealize.ShloMosaic.Lib.Claim
public import Idealize.ShloMosaic.Lib.StableHlo.RunClose
public import Idealize.ShloMosaic.Lib.Pipeline.Frame
public import Idealize.ShloMosaic.Init

@[expose] public section

noncomputable section

namespace Cert.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The stages' values -/

/-- The first linear layer: the rows of `x`, times `W1` transposed, plus `b1`. -/
def linear (x : FVec F S4x4096x4096 .f32) (w1 : FVec F S1024x4096 .f32) (b1 : FVec F S1024 .f32) : FVec F S16384x1024 .f32 :=
  addf (Host.dotGeneral dot_S16384x4096_S4096x1024_S16384x1024_1_0_0_1_n_n none
      (shapeCast S16384x4096 x shapeCasts_S4x4096x4096_S16384x4096)
      (transpose S4096x1024 [1, 0] w1 transposes_S1024x4096_S4096x1024_1_0))
    (broadcastInDim S16384x1024 ![0, 1] bcast_S1x1024_S16384x1024_0_1 (broadcastInDim S1x1024 ![1] bcast_S1024_S1x1024_1 b1))

/-- The activation, elementwise: `h · (1 / (1 + exp (−h)))`. -/
def silu (h : FVec F S16384x1024 .f32) : FVec F S16384x1024 .f32 :=
  mulf h (Host.divf (broadcastInDim S16384x1024 ![] bcast_S_S16384x1024 (constant S_ .f32 0x3F800000#32))
    (addf (broadcastInDim S16384x1024 ![] bcast_S_S16384x1024 (constant S_ .f32 0x3F800000#32)) (Host.exp (Host.negf h))))

/-- The second linear layer: times `W2` transposed, plus `b2`. -/
def logits (s : FVec F S16384x1024 .f32) (w2 : FVec F S2x1024 .f32) (b2 : FVec F S2 .f32) : FVec F S16384x2 .f32 :=
  addf (Host.dotGeneral dot_S16384x1024_S1024x2_S16384x2_1_0_0_1_n_n none s
      (transpose S1024x2 [1, 0] w2 transposes_S2x1024_S1024x2_1_0))
    (broadcastInDim S16384x2 ![0, 1] bcast_S1x2_S16384x2_0_1 (broadcastInDim S1x2 ![1] bcast_S2_S1x2_1 b2))

/-- The position read in `layer_bias`: the layer index, from the end where it is negative. -/
def layerPos (idx : IVec S_ 32) : IVec S_ 32 :=
  select (cmpi .slt idx (constantI S_ 32 0#32)) (addi idx (constantI S_ 32 32#32)) idx

/-- The layer's bias, a scalar. -/
def layerBias (idx : IVec S_ 32) (lb : FVec F S32 .f32) : FVec F S_ .f32 :=
  shapeCast S_ (Host.dynamicSlice S1 lb (fun k => ((![layerPos idx] : Fin 1 → IVec S_ 32) k (Shape.Idx.first h_S_)).toInt) sliceFits_S32_S1) shapeCasts_S1_S_

/-- The logits with the layer's bias added to the second of each row. -/
def biased (l : FVec F S16384x2 .f32) (b : FVec F S_ .f32) : FVec F S16384x2 .f32 :=
  Host.scatter scatter_S16384x2_S1_S16384_0_1_1_0 FloatOps.addf l
    (broadcastInDim S1 ![] bcast_S_S1 (constantI S_ 32 1#32)) (broadcastInDim S16384 ![] bcast_S_S16384 b)

/-- The larger logit of each row. -/
def larger (l : FVec F S16384x2 .f32) : FVec F S16384 .f32 :=
  maximumf (broadcastInDim S16384 ![] bcast_S_S16384 (constant S_ .f32 0xFF800000#32))
    (Host.reduce FloatOps.maximumf l (constant S_ .f32 0xFF800000#32) reducesTo_S16384x2_S16384_d1 h_S_)

/-- The exponentials of the logits less the larger one. -/
def exps (l : FVec F S16384x2 .f32) : FVec F S16384x2 .f32 :=
  Host.exp (subf l (broadcastInDim S16384x2 ![0, 1] bcast_S16384x1_S16384x2_0_1
    (broadcastInDim S16384x1 ![0] bcast_S16384_S16384x1_0 (larger l))))

/-- A row's entries over their sum. -/
def shares (e : FVec F S16384x2 .f32) : FVec F S16384x2 .f32 :=
  Host.divf e (broadcastInDim S16384x2 ![0, 1] bcast_S16384x1_S16384x2_0_1
    (broadcastInDim S16384x1 ![0] bcast_S16384_S16384x1_0
      (Host.reduceAdd e (constant S_ .f32 0x00000000#32) reducesTo_S16384x2_S16384_d1 h_S_)))

/-- The second entry of each row, in the result's layout. -/
def second (p : FVec F S16384x2 .f32) : FVec F S4x4096 .f32 :=
  shapeCast S4x4096 (shapeCast S16384 (extractStridedSlice S16384x1 ![0, 1] p slices_S16384x2_S16384x1_0_1)
    shapeCasts_S16384x1_S16384) shapeCasts_S16384_S4x4096

/-- The reference's result, as a function of its arguments. -/
def result (x : FVec F S4x4096x4096 .f32) (idx : IVec S_ 32) (w1 : FVec F S1024x4096 .f32) (b1 : FVec F S1024 .f32)
    (w2 : FVec F S2x1024 .f32) (b2 : FVec F S2 .f32) (lb : FVec F S32 .f32) : FVec F S4x4096 .f32 :=
  second (shares (exps (biased (logits (silu (linear x w1 b1)) w2 b2) (layerBias idx lb))))

/-! ## The operations, stage by stage -/

/-- The hidden layer: the first product, its bias, and `h · sigmoid h`. -/
abbrev hiddenOps : List (HloOp τ sig (Elt F)) :=
  [ reshape main_arg0 main_v0 (rfl : (.f32 : EltTy) = .f32) shapeCasts_S4x4096x4096_S16384x4096,
    unary main_arg2 main_v1 ((transpose S4096x1024 [1, 0] · transposes_S1024x4096_S4096x1024_1_0) : (⟨S1024x4096, .f32⟩ : BufTy).Contents (Elt F) → (⟨S4096x1024, .f32⟩ : BufTy).Contents (Elt F)),
    binary main_v0 main_v1 main_v2 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
    unary main_arg3 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S16384x1024 ![0, 1] bcast_S1x1024_S16384x1024_0_1 : (⟨S1x1024, .f32⟩ : BufTy).Contents (Elt F) → (⟨S16384x1024, .f32⟩ : BufTy).Contents (Elt F)),
    binary main_v2 main_v4 main_v5 (addf : (⟨S16384x1024, .f32⟩ : BufTy).Contents (Elt F) → (⟨S16384x1024, .f32⟩ : BufTy).Contents (Elt F) → (⟨S16384x1024, .f32⟩ : BufTy).Contents (Elt F)),
    unary main_v5 main_v6 (Host.negf : (⟨S16384x1024, .f32⟩ : BufTy).Contents (Elt F) → (⟨S16384x1024, .f32⟩ : BufTy).Contents (Elt F)),
    unary main_v6 main_v7 (Host.exp : (⟨S16384x1024, .f32⟩ : BufTy).Contents (Elt F) → (⟨S16384x1024, .f32⟩ : BufTy).Contents (Elt F)),
    nullary main_cst (constant S_ .f32 0x3F800000#32),
    unary main_cst main_v8 (broadcastInDim S16384x1024 ![] bcast_S_S16384x1024 : (⟨S_, .f32⟩ : BufTy).Contents (Elt F) → (⟨S16384x1024, .f32⟩ : BufTy).Contents (Elt F)),
    binary main_v8 main_v7 main_v9 (addf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x3F800000#32),
    unary main_cst_0 main_v10 (broadcastInDim S16384x1024 ![] bcast_S_S16384x1024 : (⟨S_, .f32⟩ : BufTy).Contents (Elt F) → (⟨S16384x1024, .f32⟩ : BufTy).Contents (Elt F)),
    binary main_v10 main_v9 main_v11 (Host.divf : (⟨S16384x1024, .f32⟩ : BufTy).Contents (Elt F) → (⟨S16384x1024, .f32⟩ : BufTy).Contents (Elt F) → (⟨S16384x1024, .f32⟩ : BufTy).Contents (Elt F)),
    binary main_v5 main_v11 main_v12 (mulf : (⟨S16384x1024, .f32⟩ : BufTy).Contents (Elt F) → (⟨S16384x1024, .f32⟩ : BufTy).Contents (Elt F) → (⟨S16384x1024, .f32⟩ : BufTy).Contents (Elt F)) ]

/-- The two logits of a row: the second product and its bias. -/
abbrev logitOps : List (HloOp τ sig (Elt F)) :=
  [ unary main_arg4 main_v13 ((transpose S1024x2 [1, 0] · transposes_S2x1024_S1024x2_1_0) : (⟨S2x1024, .f32⟩ : BufTy).Contents (Elt F) → (⟨S1024x2, .f32⟩ : BufTy).Contents (Elt F)),
    binary main_v12 main_v13 main_v14 ((fun l r => Host.dotGeneral dot_S16384x1024_S1024x2_S16384x2_1_0_0_1_n_n none l r) : (⟨S16384x1024, .f32⟩ : BufTy).Contents (Elt F) → (⟨S1024x2, .f32⟩ : BufTy).Contents (Elt F) → (⟨S16384x2, .f32⟩ : BufTy).Contents (Elt F)),
    unary main_arg5 main_v15 (broadcastInDim S1x2 ![1] bcast_S2_S1x2_1 : (⟨S2, .f32⟩ : BufTy).Contents (Elt F) → (⟨S1x2, .f32⟩ : BufTy).Contents (Elt F)),
    unary main_v15 main_v16 (broadcastInDim S16384x2 ![0, 1] bcast_S1x2_S16384x2_0_1 : (⟨S1x2, .f32⟩ : BufTy).Contents (Elt F) → (⟨S16384x2, .f32⟩ : BufTy).Contents (Elt F)),
    binary main_v14 main_v16 main_v17 (addf : (⟨S16384x2, .f32⟩ : BufTy).Contents (Elt F) → (⟨S16384x2, .f32⟩ : BufTy).Contents (Elt F) → (⟨S16384x2, .f32⟩ : BufTy).Contents (Elt F)) ]

/-- The layer's bias, read at the layer index. -/
abbrev layerOps : List (HloOp τ sig (Elt F)) :=
  [ nullary main_c (constantI S_ 32 0#32),
    binary main_arg1 main_c main_v18 (cmpi .slt : (⟨S_, .i32⟩ : BufTy).Contents (Elt F) → (⟨S_, .i32⟩ : BufTy).Contents (Elt F) → (⟨S_, .i1⟩ : BufTy).Contents (Elt F)),
    nullary main_c_1 (constantI S_ 32 32#32),
    binary main_arg1 main_c_1 main_v19 (addi : (⟨S_, .i32⟩ : BufTy).Contents (Elt F) → (⟨S_, .i32⟩ : BufTy).Contents (Elt F) → (⟨S_, .i32⟩ : BufTy).Contents (Elt F)),
    ternary main_v18 main_v19 main_arg1 main_v20 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg6 ![main_v20] ⟨S_, .i32⟩ main_v21 ((fun x i => Host.dynamicSlice S1 x (fun k => (i k (Shape.Idx.first h_S_)).toInt) sliceFits_S32_S1) : (⟨S32, .f32⟩ : BufTy).Contents (Elt F) → (Fin 1 → (⟨S_, .i32⟩ : BufTy).Contents (Elt F)) → (⟨S1, .f32⟩ : BufTy).Contents (Elt F)),
    reshape main_v21 main_v22 (rfl : (.f32 : EltTy) = .f32) shapeCasts_S1_S_ ]

/-- That bias added to the second logit of every row. -/
abbrev biasOps : List (HloOp τ sig (Elt F)) :=
  [ nullary main_c_2 (constantI S_ 32 1#32),
    unary main_c_2 main_v23 (broadcastInDim S1 ![] bcast_S_S1 : (⟨S_, .i32⟩ : BufTy).Contents (Elt F) → (⟨S1, .i32⟩ : BufTy).Contents (Elt F)),
    unary main_v22 main_v24 (broadcastInDim S16384 ![] bcast_S_S16384 : (⟨S_, .f32⟩ : BufTy).Contents (Elt F) → (⟨S16384, .f32⟩ : BufTy).Contents (Elt F)),
    ternary main_v17 main_v23 main_v24 main_v25 ((fun x i u => Host.scatter scatter_S16384x2_S1_S16384_0_1_1_0 FloatOps.addf x i u) : (⟨S16384x2, .f32⟩ : BufTy).Contents (Elt F) → (⟨S1, .i32⟩ : BufTy).Contents (Elt F) → (⟨S16384, .f32⟩ : BufTy).Contents (Elt F) → (⟨S16384x2, .f32⟩ : BufTy).Contents (Elt F)) ]

/-- The softmax of the two logits: the larger, the exponentials and their sum, the quotient. -/
abbrev softmaxOps : List (HloOp τ sig (Elt F)) :=
  [ nullary main_cst_3 (constant S_ .f32 0xFF800000#32),
    binary main_v25 main_cst_3 main_v26 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    nullary main_cst_4 (constant S_ .f32 0xFF800000#32),
    unary main_cst_4 main_v27 (broadcastInDim S16384 ![] bcast_S_S16384 : (⟨S_, .f32⟩ : BufTy).Contents (Elt F) → (⟨S16384, .f32⟩ : BufTy).Contents (Elt F)),
    binary main_v27 main_v26 main_v28 (maximumf : (⟨S16384, .f32⟩ : BufTy).Contents (Elt F) → (⟨S16384, .f32⟩ : BufTy).Contents (Elt F) → (⟨S16384, .f32⟩ : BufTy).Contents (Elt F)),
    unary main_v28 main_v29 (broadcastInDim S16384x1 ![0] bcast_S16384_S16384x1_0 : (⟨S16384, .f32⟩ : BufTy).Contents (Elt F) → (⟨S16384x1, .f32⟩ : BufTy).Contents (Elt F)),
    unary main_v29 main_v30 (broadcastInDim S16384x2 ![0, 1] bcast_S16384x1_S16384x2_0_1 : (⟨S16384x1, .f32⟩ : BufTy).Contents (Elt F) → (⟨S16384x2, .f32⟩ : BufTy).Contents (Elt F)),
    binary main_v25 main_v30 main_v31 (subf : (⟨S16384x2, .f32⟩ : BufTy).Contents (Elt F) → (⟨S16384x2, .f32⟩ : BufTy).Contents (Elt F) → (⟨S16384x2, .f32⟩ : BufTy).Contents (Elt F)),
    unary main_v31 main_v32 (Host.exp : (⟨S16384x2, .f32⟩ : BufTy).Contents (Elt F) → (⟨S16384x2, .f32⟩ : BufTy).Contents (Elt F)),
    nullary main_cst_5 (constant S_ .f32 0x00000000#32),
    binary main_v32 main_cst_5 main_v33 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v33 main_v34 (broadcastInDim S16384x1 ![0] bcast_S16384_S16384x1_0 : (⟨S16384, .f32⟩ : BufTy).Contents (Elt F) → (⟨S16384x1, .f32⟩ : BufTy).Contents (Elt F)),
    unary main_v34 main_v35 (broadcastInDim S16384x2 ![0, 1] bcast_S16384x1_S16384x2_0_1 : (⟨S16384x1, .f32⟩ : BufTy).Contents (Elt F) → (⟨S16384x2, .f32⟩ : BufTy).Contents (Elt F)),
    binary main_v32 main_v35 main_v36 (Host.divf : (⟨S16384x2, .f32⟩ : BufTy).Contents (Elt F) → (⟨S16384x2, .f32⟩ : BufTy).Contents (Elt F) → (⟨S16384x2, .f32⟩ : BufTy).Contents (Elt F)) ]

/-- The second probability of every row, laid out as the result. -/
abbrev exitOps : List (HloOp τ sig (Elt F)) :=
  [ unary main_v36 main_v37 ((extractStridedSlice S16384x1 ![0, 1] · slices_S16384x2_S16384x1_0_1) : (⟨S16384x2, .f32⟩ : BufTy).Contents (Elt F) → (⟨S16384x1, .f32⟩ : BufTy).Contents (Elt F)),
    reshape main_v37 main_v38 (rfl : (.f32 : EltTy) = .f32) shapeCasts_S16384x1_S16384,
    reshape main_v38 main_v39 (rfl : (.f32 : EltTy) = .f32) shapeCasts_S16384_S4x4096 ]

/-- All 48 operations, in order. -/
abbrev ops : List (HloOp τ sig (Elt F)) :=
  hiddenOps ++ (logitOps ++ (layerOps ++ (biasOps ++ (softmaxOps ++ exitOps))))

set_option maxRecDepth 8192 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

/-- Every operation works on buffers of the one core. -/
theorem ops_sub : (ops : List (HloOp τ sig (Elt F))).Forall fun op => op.bufs ⊆ tcRefs τ sig := by
  simp only [ops, hiddenOps, logitOps, layerOps, biasOps, softmaxOps, exitOps, List.cons_append, List.nil_append, List.forall_cons,
    List.Forall, reshape_bufs_sub, unary_bufs_sub, binary_bufs_sub, nullary_bufs_sub, ternary_bufs_sub,
    unaryIndexed_bufs_sub, and_self]

/-! ## What each stage leaves -/

section Stages

variable (V : Valuation τ sig (Elt F))

theorem hidden_at : after hiddenOps V (Proc.devRef .tc main_v12)
    = silu (linear (V (Proc.devRef .tc main_arg0)) (V (Proc.devRef .tc main_arg2)) (V (Proc.devRef .tc main_arg3))) := by
  after_results_simp
  rfl

theorem logit_at : after logitOps V (Proc.devRef .tc main_v17)
    = logits (V (Proc.devRef .tc main_v12)) (V (Proc.devRef .tc main_arg4)) (V (Proc.devRef .tc main_arg5)) := by
  after_results_simp
  rfl

theorem layer_at : after layerOps V (Proc.devRef .tc main_v22)
    = layerBias (V (Proc.devRef .tc main_arg1)) (V (Proc.devRef .tc main_arg6)) := by
  after_results_simp_entrywise
  rfl

theorem bias_at : after biasOps V (Proc.devRef .tc main_v25)
    = biased (V (Proc.devRef .tc main_v17)) (V (Proc.devRef .tc main_v22)) := by
  after_results_simp
  rfl

theorem softmax_at : after softmaxOps V (Proc.devRef .tc main_v36) = shares (exps (V (Proc.devRef .tc main_v25))) := by
  after_results_simp
  rfl

theorem exit_at : after exitOps V (Proc.devRef .tc main_v39) = second (V (Proc.devRef .tc main_v36)) := by
  after_results_simp
  rfl

end Stages

/-! ## The run -/

/-- A buffer that none of a list of operations writes keeps its contents. -/
theorem kept (l : List (HloOp τ sig (Elt F))) (V : Valuation τ sig (Elt F)) (b : Ref sig .tc)
    (h : l.Forall fun op => Proc.devRef .tc b ∉ op.writes) : after l V (Proc.devRef .tc b) = V (Proc.devRef .tc b) :=
  after_of_forall_not_mem l V (List.forall_iff_forall_mem.1 h)

/-- After all the operations the last buffer holds the result, read off the arguments' buffers. -/
theorem result_at (V : Valuation τ sig (Elt F)) : after ops V (Proc.devRef .tc main_v39)
    = result (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) := by
  rw [after_append, after_append, after_append, after_append, after_append, exit_at, softmax_at, bias_at, layer_at]
  rw [kept layerOps, logit_at, hidden_at, kept logitOps, kept hiddenOps _ main_arg1, kept logitOps,
    kept hiddenOps _ main_arg6, kept hiddenOps _ main_arg4, kept hiddenOps _ main_arg5]
  · rfl
  all_goals
    simp only [List.Forall, nullary_writes, unary_writes, binary_writes, ternary_writes, reshape_writes,
      unaryIndexed_writes, Finset.mem_singleton]
    repeat' apply And.intro
    all_goals exact devRef_ne_of_ne (by decide)

/-- No operation writes one of the seven arguments. -/
theorem arg_kept (V : Valuation τ sig (Elt F)) (b : Ref sig .tc)
    (hb : b ∈ [main_arg0, main_arg1, main_arg2, main_arg3, main_arg4, main_arg5, main_arg6]) :
    after ops V (Proc.devRef .tc b) = V (Proc.devRef .tc b) := by
  refine kept ops V b ?_
  simp only [ops, List.cons_append, List.nil_append, List.Forall, nullary_writes, unary_writes, binary_writes,
    ternary_writes, reshape_writes, unaryIndexed_writes, Finset.mem_singleton]
  repeat' apply And.intro
  all_goals
    refine devRef_ne_of_ne ?_
    rintro rfl
    revert hb
    decide

set_option maxRecDepth 8192 in
/-- Every execution of the reference terminates, with its result in place, its arguments unchanged and every counter,
    of which it has none, at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v39)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => ⟨(h c main_v39).trans (result_at _),
      (h c main_arg0).trans (arg_kept _ _ (by decide)), (h c main_arg1).trans (arg_kept _ _ (by decide)),
      (h c main_arg2).trans (arg_kept _ _ (by decide)), (h c main_arg3).trans (arg_kept _ _ (by decide)),
      (h c main_arg4).trans (arg_kept _ _ (by decide)), (h c main_arg5).trans (arg_kept _ _ (by decide)),
      (h c main_arg6).trans (arg_kept _ _ (by decide))⟩, sem_eq_zero_of_no_sems (by decide) r.2⟩)
    (run_seq scopedRefs_eq scopedSems_eq defs main (fun _ => ops) main_eq (fun _ => ops_sub) m ρ)

end Cert.Ref

end
-- ==== Proof.RefRead.lean ====
/- The reference at a row, over the extended reals: each stage of its run read at an index, then the stages together. -/
module

public import proofs.«01_k».proof.Proof.Score
public import proofs.«01_k».proof.Proof.RefRun
public import Idealize.ShloMosaic.Lib.Routing.OpsOne
public import Idealize.ShloMosaic.Lib.Routing.OpsOrder
public import Idealize.ShloMosaic.Lib.Routing.OpsPair
public import Idealize.ShloMosaic.Lib.WordCmp

@[expose] public section

noncomputable section

namespace Cert.Ref

open Idealize.ShloMosaic
open Cert.ReferenceIdeal Cert.ReferenceIdeal.Gen Cert.ReferenceIdeal.Facts

/-- The activation of one unit: the reference spells the logistic function out. -/
theorem silu_at (h : FVec Ideal S16384x1024 .f32) (r : Fin 16384) (k : Fin 1024) :
    silu h (ix2 r k) = Score.silu (h (ix2 r k)) := by
  pointwise [silu]
  rfl

/-- One unit of the hidden layer of row `r = 4096 * a + l` before its activation. -/
theorem linear_at (x : FVec Ideal S4x4096x4096 .f32) (w1 : FVec Ideal S1024x4096 .f32) (b1 : FVec Ideal S1024 .f32)
    (a : Fin 4) (l : Fin 4096) (r : Fin 16384) (k : Fin 1024) (h : r.val = a.val * 4096 + l.val) :
    linear x w1 b1 (ix2 r k) = Score.unit (fun e => x (ix3 a l e)) (fun e => w1 (ix2 k e)) (b1 (ix1 k)) := by
  have ha : ∀ p, (⟨r.val / 4096, p⟩ : Fin 4) = a := fun _ => Fin.ext (by show r.val / 4096 = a.val; omega)
  have hl : ∀ p, (⟨r.val % 4096, p⟩ : Fin 4096) = l := fun _ => Fin.ext (by show r.val % 4096 = l.val; omega)
  pointwise [linear]
  refine congrArg (fun t : EReal => t + b1 (ix1 k)) (Finset.sum_congr rfl fun e _ => ?_)
  exact congrArg (fun i => x i * w1 (ix2 k e)) (congrArg₂ (fun a l => (ix3 a l e : S4x4096x4096.Idx)) (ha _) (hl _))

/-- One logit of row `r`, before the layer's bias. -/
theorem logits_at (s : FVec Ideal S16384x1024 .f32) (w2 : FVec Ideal S2x1024 .f32) (b2 : FVec Ideal S2 .f32)
    (r : Fin 16384) (k : Fin 2) :
    logits s w2 b2 (ix2 r k) = ∑ e, s (ix2 r e) * w2 (ix2 k e) + b2 (ix1 k) := by
  pointwise [logits]

/-- The layer's bias is the entry of `layer_bias` that the index names, where it is one of the 32. -/
theorem layerBias_at (idx : IVec S_ 32) (lb : FVec Ideal S32 .f32) (n : Fin 32) (hn : ∀ z, (idx z).toNat = n.val)
    (z : S_.Idx) : layerBias idx lb z = lb (ix1 n) := by
  have hw : (idx (Shape.Idx.first h_S_)).toNat < 2 ^ (32 - 1) := by
    rw [hn]
    exact n.isLt.trans (by norm_num)
  pointwise [layerBias, layerPos]
  rw [Routing.wrap_of_lt _ _ hw, WordCmp.toInt_eq_toNat_of_lt_half hw, hn]
  refine congrArg (fun e : Fin 32 => lb (ix1 e)) (Fin.ext ?_)
  refine (Nat.add_zero _).trans (Host.clampedStart_of_le (s := S32) (t := S1) rfl (fun _ => (n.val : Int)) 0 n.val rfl ?_)
  exact n.isLt

/-- A fold that acts nowhere on a list leaves its start. -/
theorem foldl_never {α ι : Type} (p : ι → Prop) [DecidablePred p] (g : α → ι → α) (L : List ι) (hp : ∀ n ∈ L, ¬p n) (a : α) :
    L.foldl (fun a n => if p n then g a n else a) a = a := by
  induction L with
  | nil => rfl
  | cons n M ih =>
    rw [List.foldl_cons, if_neg (hp n List.mem_cons_self)]
    exact ih fun q hq => hp q (List.mem_cons_of_mem _ hq)

/-- A fold that acts at one element of a list without repetitions, and nowhere else, acts once. -/
theorem foldl_once {α ι : Type} (p : ι → Prop) [DecidablePred p] (g : α → ι → α) (i : ι) (hp : ∀ n, p n ↔ n = i)
    (L : List ι) (hL : L.Nodup) (hi : i ∈ L) (a : α) : L.foldl (fun a n => if p n then g a n else a) a = g a i := by
  induction L with
  | nil => exact absurd hi List.not_mem_nil
  | cons n M ih =>
    obtain ⟨hn, hM⟩ := List.nodup_cons.1 hL
    rw [List.foldl_cons]
    by_cases e : n = i
    · subst e
      rw [if_pos ((hp n).2 rfl)]
      exact foldl_never p g M (fun q hq h => hn ((hp q).1 h ▸ hq)) _
    · rw [if_neg fun q => e ((hp n).1 q)]
      exact ih hM ((List.mem_cons.1 hi).resolve_left fun q => e q.symm)

/-- The scatter adds the layer's bias to the second logit of each row, and to nothing else: of its updates exactly the
    row's own lands in the second column. -/
theorem biased_at (l : FVec Ideal S16384x2 .f32) (b : FVec Ideal S_ .f32) (r : Fin 16384) (k : Fin 2) (v : EReal)
    (hv : ∀ z, b z = v) :
    biased l b (ix2 r k) = if k = 1 then l (ix2 r k) + v else l (ix2 r k) := by
  unfold biased
  rw [← Routing.scatterIn_finRange, Routing.scatterIn_at]
  have upd : ∀ j, broadcastInDim S16384 ![] bcast_S_S16384 b j = v := fun j => by
    unfold broadcastInDim
    exact hv _
  simp only [upd]
  have lands : ∀ j : S16384.Idx, scatter_S16384x2_S1_S16384_0_1_1_0.resultIdx? j
      (broadcastInDim S1 ![] bcast_S_S1 (constantI S_ 32 1#32)) = some (ix2 r k) ↔ j = ix1 r ∧ k = 1 := fun j => by
    obtain ⟨w, rfl⟩ : ∃ w : Fin 16384, j = ix1 w := ⟨j 0, (ValueIdx.eq_ix1 j).trans (ix1_eq_valueIdx _).symm⟩
    rw [ix1_eq_valueIdx, ix2_eq_valueIdx]
    refine (Routing.lands_col scatter_S16384x2_S1_S16384_0_1_1_0 rfl rfl _ (1 : Fin 2) rfl w r k).trans
      (and_congr_left fun _ => ⟨fun e => by rw [e, ix1_eq_valueIdx], fun e => ?_⟩)
    rw [← ix1_eq_valueIdx] at e
    exact congrFun e 0
  by_cases hk : k = 1
  · rw [if_pos hk]
    refine foldl_once _ (fun a _ => a + v) (S16384.rowMajor (ix1 r)) (fun n => ?_) _ (List.nodup_finRange _) (List.mem_finRange _) _
    rw [lands, Equiv.symm_apply_eq]
    exact and_iff_left hk
  · rw [if_neg hk]
    exact foldl_never _ (fun a _ => a + v) _ (fun n _ h => hk ((lands _).1 h).2) _

/-- The larger logit of row `r`. -/
theorem larger_at (l : FVec Ideal S16384x2 .f32) (r : Fin 16384) :
    larger l (ix1 r) = Score.larger fun k => l (ix2 r k) := by
  pointwise [larger]
  have h : Ideal.ofBits FTy.f32 4286578688#32 = ⊥ := by simp [Ideal.ofBits, Ideal.ieee]
  rw [h]
  rfl

/-- The exponential of one logit less the larger. -/
theorem exps_at (l : FVec Ideal S16384x2 .f32) (r : Fin 16384) (k : Fin 2) :
    exps l (ix2 r k) = Ideal.exp (l (ix2 r k) - Score.larger fun k => l (ix2 r k)) := by
  pointwise [exps]
  rw [larger_at]

/-- A row's share of its total. -/
theorem shares_at (e : FVec Ideal S16384x2 .f32) (r : Fin 16384) (k : Fin 2) :
    shares e (ix2 r k) = Ideal.div (e (ix2 r k)) (∑ k, e (ix2 r k)) := by
  pointwise [shares]

/-- The result at `(a, l)` is the second share of row `4096 * a + l`. -/
theorem second_at (p : FVec Ideal S16384x2 .f32) (a : Fin 4) (l : Fin 4096) (r : Fin 16384)
    (h : r.val = a.val * 4096 + l.val) : second p (ix2 a l) = p (ix2 r 1) := by
  have hr : r = ⟨a.val * 4096 + l.val, by omega⟩ := Fin.ext h
  pointwise [second]
  rw [hr]

/-- The reference's result at `(a, l)`: the second share of the softmax of that row's two logits. -/
theorem result_row (x : FVec Ideal S4x4096x4096 .f32) (idx : IVec S_ 32) (w1 : FVec Ideal S1024x4096 .f32)
    (b1 : FVec Ideal S1024 .f32) (w2 : FVec Ideal S2x1024 .f32) (b2 : FVec Ideal S2 .f32) (lb : FVec Ideal S32 .f32)
    (n : Fin 32) (hn : ∀ z, (idx z).toNat = n.val) (a : Fin 4) (l : Fin 4096) :
    result x idx w1 b1 w2 b2 lb (ix2 a l) = Score.share fun k =>
      let o : EReal := ∑ e, Score.hidden (fun e => x (ix3 a l e)) (fun k e => w1 (ix2 k e)) (fun k => b1 (ix1 k)) e * w2 (ix2 k e) + b2 (ix1 k)
      if k = 1 then o + lb (ix1 n) else o := by
  unfold result
  rw [second_at _ a l ⟨a.val * 4096 + l.val, by omega⟩ rfl, shares_at]
  simp only [exps_at, biased_at _ _ _ _ _ (layerBias_at idx lb n hn), logits_at, silu_at,
    linear_at _ _ _ a l ⟨a.val * 4096 + l.val, by omega⟩ _ rfl]
  rfl

end Cert.Ref

end
-- ==== Proof.Value.lean ====
/- The two results agree. The precondition of the value claim makes real every number that the scores
   depend on, and then the reference's share of a row's second logit is the kernel's score of the row. -/
module

public import proofs.«01_k».proof.Proof.Array
public import proofs.«01_k».proof.Proof.Layer
public import proofs.«01_k».proof.Proof.Math
public import proofs.«01_k».proof.Proof.RefRead

@[expose] public section

noncomputable section

namespace Cert.Value

open Idealize.ShloMosaic Idealize.ShloMosaic.TcCoe
open Cert.Math (IsReal)

/-- An element whose magnitude the precondition finds below infinity is real. -/
theorem isReal_of_bit (x : EReal) (h : (Ideal.cmp .olt (max x (-x)) (Ideal.ofBits .f32 0x7F800000#32)) = 1#1) : IsReal x := by
  refine Math.isReal_of_abs_lt ?_
  have e : Ideal.ofBits .f32 0x7F800000#32 = ⊤ := by simp [Ideal.ofBits, Ideal.ieee]
  rw [e] at h
  by_contra hn
  simp [Ideal.cmp, hn] at h

/-- Where the layer index is `n` and every argument is real, of `layer_bias` the entry `n`, the reference's result at a row is the kernel's score. -/
theorem row_eq (x : (⟨3, ![4, 4096, 4096]⟩ : Shape).Idx → EReal) (idx : IVec Cert.ReferenceIdeal.S_ 32)
    (w1 : (⟨2, ![1024, 4096]⟩ : Shape).Idx → EReal) (b1 : (⟨1, ![1024]⟩ : Shape).Idx → EReal)
    (w2 : (⟨2, ![2, 1024]⟩ : Shape).Idx → EReal) (b2 : (⟨1, ![2]⟩ : Shape).Idx → EReal)
    (lb : (⟨1, ![32]⟩ : Shape).Idx → EReal) (n : Fin 32) (hn : ∀ z, (idx z).toNat = n.val) (hx : ∀ i, IsReal (x i))
    (hw1 : ∀ i, IsReal (w1 i)) (hb1 : ∀ i, IsReal (b1 i)) (hw2 : ∀ i, IsReal (w2 i)) (hb2 : ∀ i, IsReal (b2 i))
    (hlb : IsReal (lb (ix1 n))) (a : Fin 4) (l : Fin 4096) :
    Cert.Ref.result (F := Ideal) x idx w1 b1 w2 b2 lb (ix2 a l)
      = Score.ofArgs (fun e => x (ix3 a l e)) w1 b1 w2 b2 lb n := by
  rw [Cert.Ref.result_row x idx w1 b1 w2 b2 lb n hn]
  exact Math.share_logits _ (fun k => w2 (ix2 0 k)) (fun k => w2 (ix2 1 k)) (b2 (ix1 0)) (b2 (ix1 1)) (lb (ix1 n))
    (Math.hidden_real _ _ _ (fun _ => hx _) (fun _ _ => hw1 _) fun _ => hb1 _) (fun _ => hw2 _) (fun _ => hw2 _) (hb2 _)
    (hb2 _) hlb _ (if_neg (by decide)) (if_pos rfl)

section
open Cert.KernelIdeal Cert.KernelIdeal.Gen

variable (m : (ℓ : Loc nD τ sig) → Buf (Elt Ideal) ℓ)

/-- The layer that device `c` is given, under the precondition. -/
def layer (h : Cert.Pre_KernelIdeal_finite_and_layer_in_range m) (c : Dev nD) : Fin 32 :=
  ⟨(m ((c : Thread nD τ).loc main_arg1) (fun a => a.elim0 : S_.Idx)).toNat, Layer.lt_of_finite m h c _⟩

/-- The layer index, at the one index of its scalar, is `layer`. -/
theorem layer_eq (h : Cert.Pre_KernelIdeal_finite_and_layer_in_range m) (c : Dev nD) (z : S_.Idx) :
    (m ((c : Thread nD τ).loc main_arg1) z).toNat = (layer m h c).val :=
  congrArg (fun z : S_.Idx => (m ((c : Thread nD τ).loc main_arg1) z).toNat) (funext fun a => a.elim0)

/-- Under the precondition the reference's result, of the kernel's own arguments, is the kernel's. -/
theorem result_eq (h : Cert.Pre_KernelIdeal_finite_and_layer_in_range m) (c : Dev nD) :
    Cert.Ref.result (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      = Cert.Array.result m c (layer m h c) := by
  obtain ⟨-, h0, h2, h3, h4, h5, h6⟩ := h c
  have hlb : IsReal (Cert.Ref.layerBias (F := Ideal) (m ((c : Thread nD τ).loc main_arg1))
      (m ((c : Thread nD τ).loc main_arg6)) fun a => a.elim0) := isReal_of_bit _ (congrFun h6 fun a => a.elim0)
  rw [Cert.Ref.layerBias_at _ _ _ (layer_eq m h c)] at hlb
  funext i
  obtain ⟨a, l, rfl⟩ : ∃ (a : Fin 4) (l : Fin 4096), i = ix2 a l :=
    ⟨i 0, i 1, (ValueIdx.eq_ix2 i).trans (ix2_eq_valueIdx _ _).symm⟩
  exact row_eq _ _ _ _ _ _ _ _ (layer_eq m h c) (fun i => isReal_of_bit _ (congrFun h0 i))
    (fun i => isReal_of_bit _ (congrFun h2 i)) (fun i => isReal_of_bit _ (congrFun h3 i))
    (fun i => isReal_of_bit _ (congrFun h4 i)) (fun i => isReal_of_bit _ (congrFun h5 i))
    hlb a l

end

end Cert.Value

end
-- ==== Proof.lean ====
/- The certificate. The kernel, compiled and idealized, runs where the layer index is one of the 32; the reference runs
   always. Where moreover every number that the scores depend on is finite, the idealized kernel and the reference end with
   the same result. -/
module

public import proofs.«01_k».proof.Defs
public import proofs.«01_k».proof.Proof.Value
public import Idealize.ShloMosaic.Adequacy
public import Idealize.ShloMosaic.Init

@[expose] public section

noncomputable section

namespace Cert.Proof

open Idealize.ShloMosaic Idealize.SL.Sem

/-- From equal arguments, the layer in range and every number that the scores depend on finite, the idealized kernel
    and the reference both end with the kernel's result, and leave their arguments as they were. -/
theorem algebraic : Cert.algebraic_KernelIdeal_ReferenceIdeal_pre_finite_and_layer_in_range := by
  intro m g m' g' h args
  have hH := Cert.Layer.hyps_of_lt m (Cert.Layer.lt_of_finite m h)
  refine ⟨fun c => Cert.Array.result m c (Cert.Value.layer m h c), ?_, ?_⟩
  · exact (θ_run Cert.KernelIdeal.defs _ _).mono (fun _ r c => ⟨r.1 c, r.2 c⟩)
      (θ_run_and (Cert.Array.run m g hH (Cert.Value.layer m h) (Cert.Value.layer_eq m h))
        (Cert.KernelIdeal.Gen.unchanged m g hH))
  · refine (θ_run Cert.ReferenceIdeal.defs _ _).mono (fun _ r c => ⟨(r.1 c).1.trans ?_, (r.1 c).2⟩) (Cert.Ref.run m' g')
    obtain ⟨a0, a1, a2, a3, a4, a5, a6⟩ := args c
    rw [a0, a1, a2, a3, a4, a5, a6]
    exact Cert.Value.result_eq m h c

/-- Every claim of the certificate: the three programs run and leave their arguments unchanged (the kernel's two forms
    under a precondition), the idealized kernel keeps the compiled one's operations, and its result is the reference's. -/
theorem claim : Cert.Claim :=
  ⟨Cert.Kernel.Gen.facts, Cert.KernelIdeal.Gen.facts, Cert.ReferenceIdeal.Gen.facts, Cert.Pre_layer_in_range.Gen.facts,
    Cert.Pre_finite_and_layer_in_range.Gen.facts,
    fun m g h => Cert.Kernel.Gen.frame m g (Cert.Layer.hyps_bits m h),
    fun m g h => Cert.KernelIdeal.Gen.frame m g (Cert.Layer.hyps_of_lt m (Cert.Layer.lt_of_range m h)),
    fun m g h => Cert.KernelIdeal.Gen.frame m g (Cert.Layer.hyps_of_lt m (Cert.Layer.lt_of_finite m h)),
    fun m g _ => (θ_run Cert.ReferenceIdeal.defs _ _).mono (fun _ h => ⟨fun c => (h.1 c).2, h.2⟩) (Cert.Ref.run m g),
    fun m g _ => (θ_run Cert.ReferenceIdeal.defs _ _).mono (fun _ h => ⟨fun c => (h.1 c).2, h.2⟩) (Cert.Ref.run m g),
    trivial,
    algebraic⟩

end Cert.Proof

end
